-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x2048 : Shape := ⟨2, ![2048, 2048]⟩
abbrev S128x2048 : Shape := ⟨2, ![128, 2048]⟩
abbrev S128x1x2048 : Shape := ⟨3, ![128, 1, 2048]⟩
abbrev S128x16x2048 : Shape := ⟨3, ![128, 16, 2048]⟩
abbrev S1x1 : Shape := ⟨2, ![1, 1]⟩
abbrev S_ : Shape := ⟨0, ![]⟩
abbrev S128x128 : Shape := ⟨2, ![128, 128]⟩
abbrev S1024x16x128 : Shape := ⟨3, ![1024, 16, 128]⟩
abbrev S128x1 : Shape := ⟨2, ![128, 1]⟩
abbrev S8x16x128 : Shape := ⟨3, ![8, 16, 128]⟩
abbrev S8x128 : Shape := ⟨2, ![8, 128]⟩
abbrev S1x16x128 : Shape := ⟨3, ![1, 16, 128]⟩
abbrev S16x128 : Shape := ⟨2, ![16, 128]⟩
abbrev S16x8x128 : Shape := ⟨3, ![16, 8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x2048, .f32⟩
  | .hbm, ⟨3, _⟩ => ⟨S128x2048, .f32⟩
  | .hbm, ⟨4, _⟩ => ⟨S128x2048, .bf16⟩
  | .hbm, ⟨5, _⟩ => ⟨S128x1x2048, .bf16⟩
  | .hbm, ⟨6, _⟩ => ⟨S128x16x2048, .bf16⟩
  | .hbm, ⟨7, _⟩ => ⟨S2048x128, .bf16⟩
  | .hbm, ⟨8, _⟩ => ⟨S1x1, .f32⟩
  | .hbm, ⟨9, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S128x16x2048, .bf16⟩
  | .local _ .vmem, ⟨3, _⟩ => ⟨S128x2048, .f32⟩
  | .local _ .vmem, ⟨4, _⟩ => ⟨S128x2048, .f32⟩
  | .local _ .vmem, ⟨5, _⟩ => ⟨S1x1, .f32⟩
  | .local _ .vmem, ⟨6, _⟩ => ⟨S1024x16x128, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2048x128 : Shape := ⟨2, ![2048, 128]⟩
abbrev S2048x2048 : Shape := ⟨2, ![2048, 2048]⟩
abbrev S16x128x128 : Shape := ⟨3, ![16, 128, 128]⟩
abbrev S_ : Shape := ⟨0, ![]⟩
abbrev S16x128x2048 : Shape := ⟨3, ![16, 128, 2048]⟩
abbrev S1x128x128 : Shape := ⟨3, ![1, 128, 128]⟩
abbrev S128x128 : Shape := ⟨2, ![128, 128]⟩
abbrev S128x1x128 : Shape := ⟨3, ![128, 1, 128]⟩
abbrev S1x2048x128 : Shape := ⟨3, ![1, 2048, 128]⟩
abbrev S128x2048x128 : Shape := ⟨3, ![128, 2048, 128]⟩
abbrev S128x2048 : Shape := ⟨2, ![128, 2048]⟩
abbrev S1x128x2048 : Shape := ⟨3, ![1, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x2048, .f32⟩
  | .hbm, ⟨3, _⟩ => ⟨S16x128x128, .f32⟩
  | .hbm, ⟨4, _⟩ => ⟨S_, .f32⟩
  | .hbm, ⟨5, _⟩ => ⟨S16x128x2048, .f32⟩
  | .hbm, ⟨6, _⟩ => ⟨S_, .i32⟩
  | .hbm, ⟨7, _⟩ => ⟨S16x128x128, .f32⟩
  | .hbm, ⟨8, _⟩ => ⟨S2048x128, .f32⟩
  | .hbm, ⟨9, _⟩ => ⟨S_, .i32⟩
  | .hbm, ⟨10, _⟩ => ⟨S16x128x2048, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1x128x128, .f32⟩
  | .hbm, ⟨16, _⟩ => ⟨S128x128, .f32⟩
  | .hbm, ⟨17, _⟩ => ⟨S128x1x128, .f32⟩
  | .hbm, ⟨18, _⟩ => ⟨S1x2048x128, .f32⟩
  | .hbm, ⟨19, _⟩ => ⟨S128x2048x128, .f32⟩
  | .hbm, ⟨20, _⟩ => ⟨S128x2048x128, .f32⟩
  | .hbm, ⟨21, _⟩ => ⟨S128x2048x128, .f32⟩
  | .hbm, ⟨22, _⟩ => ⟨S_, .f32⟩
  | .hbm, ⟨23, _⟩ => ⟨S128x2048x128, .f32⟩
  | .hbm, ⟨24, _⟩ => ⟨S128x2048x128, .f32⟩
  | .hbm, ⟨25, _⟩ => ⟨S_, .f32⟩
  | .hbm, ⟨26, _⟩ => ⟨S128x2048x128, .f32⟩
  | .hbm, ⟨27, _⟩ => ⟨S128x2048x128, .f32⟩
  | .hbm, ⟨28, _⟩ => ⟨S128x2048x128, .f32⟩
  | .hbm, ⟨29, _⟩ => ⟨S_, .f32⟩
  | .hbm, ⟨30, _⟩ => ⟨S128x2048, .f32⟩
  | .hbm, ⟨31, _⟩ => ⟨S1x128x2048, .f32⟩
  | .hbm, ⟨32, _⟩ => ⟨S_, .i32⟩
  | .hbm, ⟨33, _⟩ => ⟨S_, .i32⟩
  | .hbm, ⟨34, _⟩ => ⟨S16x128x2048, .f32⟩
  | .hbm, ⟨35, _⟩ => ⟨S_, .i32⟩
  | .hbm, ⟨36, _⟩ => ⟨S_, .i32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_while0c_c_5 : Ref sig .tc := ⟨.hbm, 11, rfl⟩
abbrev main_while0c_v7 : Ref sig .tc := ⟨.hbm, 12, rfl⟩
abbrev main_while0b_call0_c : Ref sig .tc := ⟨.hbm, 13, rfl⟩
abbrev main_while0b_call0_c_0 : Ref sig .tc := ⟨.hbm, 14, rfl⟩
abbrev main_while0b_call0_v0 : Ref sig .tc := ⟨.hbm, 15, rfl⟩
abbrev main_while0b_v7 : Ref sig .tc := ⟨.hbm, 16, rfl⟩
abbrev main_while0b_v8 : Ref sig .tc := ⟨.hbm, 17, rfl⟩
abbrev main_while0b_v9 : Ref sig .tc := ⟨.hbm, 18, rfl⟩
abbrev main_while0b_v10 : Ref sig .tc := ⟨.hbm, 19, rfl⟩
abbrev main_while0b_v11 : Ref sig .tc := ⟨.hbm, 20, rfl⟩
abbrev main_while0b_v12 : Ref sig .tc := ⟨.hbm, 21, rfl⟩
abbrev main_while0b_cst_5 : Ref sig .tc := ⟨.hbm, 22, rfl⟩
abbrev main_while0b_v13 : Ref sig .tc := ⟨.hbm, 23, rfl⟩
abbrev main_while0b_v14 : Ref sig .tc := ⟨.hbm, 24, rfl⟩
abbrev main_while0b_cst_6 : Ref sig .tc := ⟨.hbm, 25, rfl⟩
abbrev main_while0b_v15 : Ref sig .tc := ⟨.hbm, 26, rfl⟩
abbrev main_while0b_v16 : Ref sig .tc := ⟨.hbm, 27, rfl⟩
abbrev main_while0b_v17 : Ref sig .tc := ⟨.hbm, 28, rfl⟩
abbrev main_while0b_cst_7 : Ref sig .tc := ⟨.hbm, 29, rfl⟩
abbrev main_while0b_v18 : Ref sig .tc := ⟨.hbm, 30, rfl⟩
abbrev main_while0b_call1_v0 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_v19 : Ref sig .tc := ⟨.hbm, 34, rfl⟩
abbrev main_while0b_c_8 : Ref sig .tc := ⟨.hbm, 35, rfl⟩
abbrev main_while0b_v20 : Ref sig .tc := ⟨.hbm, 36, rfl⟩
abbrev main_v3 : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_cst_1 : Ref sig .tc := ⟨.hbm, 41, rfl⟩
abbrev main_v6 : Ref sig .tc := ⟨.hbm, 42, rfl⟩

abbrev nD : Nat := 1
abbrev τ : Topo := Topo.v7x

variable {F : FTy → Type} [FloatOps F]

abbrev main_while0_count : Scf.Loop 32 := ⟨0#32, 16#32, 1#32⟩
-- ==== Proof.Body.lean ====
/- The kernel's body written as loops.  The program repeats one short step 2048 times and one short copy 128
   times, each time at literal offsets; here the step and the copy are written once, at a variable index.
   Everything is stated for any buffer signature, so both programs of the certificate use it. -/
module

public import Idealize.ShloMosaic.Lib.Pipeline
public import Idealize.ShloMosaic.Lib.Sig
public import Idealize.ShloMosaic.PureOps

@[expose] public section

noncomputable section

namespace Emd

open Idealize.ShloMosaic Idealize.SL.Sem

abbrev SY : Shape := ⟨2, ![128, 128]⟩
abbrev SCol : Shape := ⟨2, ![128, 1]⟩
abbrev STile : Shape := ⟨3, ![8, 16, 128]⟩
abbrev SBc : Shape := ⟨3, ![1024, 16, 128]⟩
abbrev SYj : Shape := ⟨3, ![128, 16, 2048]⟩
abbrev SX : Shape := ⟨2, ![128, 2048]⟩
abbrev SRow1 : Shape := ⟨3, ![1, 16, 128]⟩
abbrev SRow : Shape := ⟨2, ![16, 128]⟩
abbrev SGrp : Shape := ⟨3, ![16, 8, 128]⟩
abbrev SPart : Shape := ⟨2, ![8, 128]⟩
abbrev SPart1 : Shape := ⟨3, ![1, 8, 128]⟩
abbrev SOne : Shape := ⟨1, ![1]⟩
abbrev SOne2 : Shape := ⟨2, ![1, 1]⟩
abbrev SOne3 : Shape := ⟨3, ![1, 1, 1]⟩

/-! ## The shape facts the body cites -/

theorem cast_Y_Y : SY.ShapeCasts SY := by decide
theorem cast_Col_Col : SCol.ShapeCasts SCol := by decide
theorem cast_Y_Tile : SY.ShapeCasts STile := by decide
theorem cast_Tile_Y : STile.ShapeCasts SY := by decide
theorem cast_Tile_Tile : STile.ShapeCasts STile := by decide
theorem cast_Row1_Row : SRow1.ShapeCasts SRow := by decide
theorem cast_Row_Row1 : SRow.ShapeCasts SRow1 := by decide
theorem cast_Y_Grp : SY.ShapeCasts SGrp := by decide
theorem cast_Part_Part1 : SPart.ShapeCasts SPart1 := by decide
theorem cast_One_One3 : SOne.ShapeCasts SOne3 := by decide
theorem cast_One2_One2 : SOne2.ShapeCasts SOne2 := by decide
theorem bc_Col_Y : SCol.Broadcasts SY := by decide
theorem bc_Row1_Tile : SRow1.Broadcasts STile := by decide
theorem red_Grp : SGrp.Reduces [0] SPart := by decide
theorem red_Part1 : SPart1.Reduces [1, 2] SOne := by decide
theorem bits_lt : FTy.bits .bf16 < FTy.bits .f32 := by decide
theorem pos_Y : 0 < SY.numel := by decide
theorem pos_X : 0 < SX.numel := by decide
theorem pos_Tile : 0 < STile.numel := by decide
theorem pos_Row1 : 0 < SRow1.numel := by decide
theorem pos_One2 : 0 < SOne2.numel := by decide
theorem inb_Y : ∀ a, (![0, 0] : Fin 2 → Nat) a + SY.size a ≤ SY.size a := by decide
theorem inb_X : ∀ a, (![0, 0] : Fin 2 → Nat) a + SX.size a ≤ SX.size a := by decide
theorem inb_One2 : ∀ a, (![0, 0] : Fin 2 → Nat) a + SOne2.size a ≤ SOne2.size a := by decide
theorem inpos_One3 : ∀ a, (![0, 0, 0] : Fin 3 → Nat) a < SOne3.size a := by decide

/-- The column `d` of the block of `y_i` is inside it. -/
theorem col_slices (d : Nat) (h : d < 128) : SY.Slices ![0, d] SCol := by
  refine ⟨rfl, fun a => ?_⟩
  fin_cases a <;> simp <;> omega
/-- The tile `d` of the scratch is inside it. -/
theorem tile_inb (d : Nat) (h : d < 128) : ∀ a, (![8 * d, 0, 0] : Fin 3 → Nat) a + STile.size a ≤ SBc.size a := by
  intro a; fin_cases a <;> simp <;> omega
/-- The row `d` of the column block `h` of `y_j` is inside it. -/
theorem row_inb (n : Nat) (h : n < 2048) :
    ∀ a, (![n % 128, 0, 128 * (n / 128)] : Fin 3 → Nat) a + SRow1.size a ≤ SYj.size a := by
  intro a; fin_cases a <;> simp <;> omega
/-- The column block `h` of `x_ij` is inside it. -/
theorem x_slices (h : Nat) (hh : h < 16) : SX.Slices ![0, 128 * h] SY := by
  refine ⟨rfl, fun a => ?_⟩
  fin_cases a <;> simp <;> omega
/-- A tile of the scratch is whole words. -/
theorem tile_packed (d : Nat) (h : d < 128) :
    (Rect.unit (s := SBc) ![8 * d, 0, 0] STile.size (tile_inb d h)).PackedRows (EltTy.packing .bf16) := by
  refine .inr ⟨by decide, rfl, .inl ⟨⟨0, rfl⟩, ⟨8, rfl⟩⟩⟩

variable {F : FTy → Type} [FloatOps F]

/-! ## The pure parts -/

/-- Column `d` of the block of `y_i`, repeated over 128 lanes and read as 8 groups of 16 rows: the tile `d` the
    body keeps in the scratch. -/
def tileOf (y : FVec F SY .bf16) (d : Nat) (h : d < 128) : FVec F STile .bf16 :=
  shapeCast STile (broadcastTo SY (shapeCast SCol (extractStridedSlice SCol ![0, d] y (col_slices d h)) cast_Col_Col) bc_Col_Y)
    cast_Y_Tile

/-- What the body carries: the (8, 128) partial sums, the f32 accumulator and the bf16 accumulator. -/
structure St (F : FTy → Type) where
  part : FVec F SPart .f32
  accf : FVec F STile .f32
  acc : FVec F STile .bf16

/-- A step's term: the absolute difference of a tile of `y_i` and a row of `y_j` broadcast over it. -/
def diffOf (b : FVec F STile .bf16) (rb : FVec F STile .bf16) : FVec F STile .bf16 := absf (subf b rb)

/-- A loaded row of `y_j` as 16 rows of 128. -/
def row16 (r : FVec F SRow1 .bf16) : FVec F SRow .bf16 := shapeCast SRow r cast_Row1_Row
/-- It broadcast over a tile. -/
def rowB (r : FVec F SRow .bf16) : FVec F STile .bf16 := broadcastTo STile (shapeCast SRow1 r cast_Row_Row1) bc_Row1_Tile

def zeroPart : FVec F SPart .f32 := broadcast SPart (Scalar.ofBits .f32 0x00000000#32)
def zeroAccf : FVec F STile .f32 := broadcast STile (Scalar.ofBits .f32 0x00000000#32)
def zeroAcc : FVec F STile .bf16 := broadcast STile (Scalar.ofBits .bf16 0x0000#16)

/-- A finished column block `h` of `theta`, times its block of `x_ij`, summed in groups of 8 rows. -/
def blockSum (x : FVec F SX .f32) (accf : FVec F STile .f32) (h : Nat) (hh : h < 16) : FVec F SPart .f32 :=
  multiReduction .add [0] SPart
    (shapeCast SGrp (mulf (shapeCast SY accf cast_Tile_Y) (extractStridedSlice SY ![0, 128 * h] x (x_slices h hh))) cast_Y_Grp)
    0x00000000#32 red_Grp (.inl rfl) rfl

/-- The state after step `n` added its term `t`: the term goes into the bf16 accumulator; after 32 terms that
    goes into the f32 accumulator; after 128 terms that times `x_ij` goes into the partial sums. -/
def next (x : FVec F SX .f32) (n : Nat) (h : n < 2048) (s : St F) (t : FVec F STile .bf16) : St F :=
  match Nat.beq (n % 32) 31 with
  | false => ⟨s.part, s.accf, addf s.acc t⟩
  | true =>
    match Nat.beq (n % 128) 127 with
    | false => ⟨s.part, addf s.accf (extf .f32 (addf s.acc t) bits_lt), zeroAcc⟩
    | true =>
      ⟨addf s.part (blockSum x (addf s.accf (extf .f32 (addf s.acc t) bits_lt)) (n / 128) (by omega)), zeroAccf, zeroAcc⟩

/-! ## The program -/

variable {nD : Nat} {τ : Topo} {sig : RefSig} {Λ : Labels}

section
variable (aj : Memref sig .tc .vmem SYj .bf16) (bc : Memref sig .tc .vmem SBc .bf16) (hbc : bc.IsWhole)

/-- Load row `n % 128` of column block `n / 128` of `y_j`. -/
def loadRow (n : Nat) (h : n < 2048) : Prog (TpuEff nD τ sig (Elt F) Λ .tc) (Vec F SRow1 .bf16) :=
  Prog.lift (.load aj (Rect.unit (s := SYj) ![n % 128, 0, 128 * (n / 128)] SRow1.size (row_inb n h)).toLoadRect
    (View.loadsAt_vmem pos_Row1))

/-- Load tile `d` of the scratch. -/
def loadTile (d : Nat) (h : d < 128) : Prog (TpuEff nD τ sig (Elt F) Λ .tc) (Vec F STile .bf16) :=
  Prog.lift (.load bc (Rect.unit (s := SBc) ![8 * d, 0, 0] STile.size (tile_inb d h)).toLoadRect (View.loadsAt_vmem pos_Tile))

include hbc in
/-- Store tile `d` of the scratch. -/
def storeTile (d : Nat) (h : d < 128) (v : FVec F STile .bf16) : Prog (TpuEff nD τ sig (Elt F) Λ .tc) PUnit :=
  Prog.lift (.store bc (Rect.unit (s := SBc) ![8 * d, 0, 0] STile.size (tile_inb d h)) v Finset.univ
    (View.stores_vmem pos_Tile (hbc.storeExact_slice rfl _ (tile_packed d h)) (fun _ => rfl)) (.inl rfl))

/-- The last `k` of the 128 tiles put in the scratch, in order. -/
def fill (y : FVec F SY .bf16) (k : Nat) : Prog (TpuEff nD τ sig (Elt F) Λ .tc) PUnit :=
  Nat.rec (pure ⟨⟩) (fun k ih => do
    let _ ← loadTile bc (128 - (k + 1)) (by omega)
    storeTile bc hbc (128 - (k + 1)) (by omega) (shapeCast STile (tileOf y (128 - (k + 1)) (by omega)) cast_Tile_Tile)
    ih) k

/-- The last `k` of the first `N` steps, in order. -/
def steps (x : FVec F SX .f32) (N : Nat) (hN : N ≤ 2048) (k : Nat) : St F → Prog (TpuEff nD τ sig (Elt F) Λ .tc) (St F) :=
  Nat.rec (fun s => pure s) (fun k ih s => do
    let r ← loadRow aj (N - (k + 1)) (by omega)
    let b ← loadTile bc ((N - (k + 1)) % 128) (by omega)
    ih (next x (N - (k + 1)) (by omega) s (diffOf b (rowB (row16 r))))) k

end

section
variable (i0 : Nat) (ay : Memref sig .tc .vmem SY .bf16) (aj : Memref sig .tc .vmem SYj .bf16)
  (ax : Memref sig .tc .vmem SX .f32) (ao : Memref sig .tc .vmem SOne2 .f32) (bc : Memref sig .tc .vmem SBc .bf16)
  (hbc : bc.IsWhole)

def loadOne : Prog (TpuEff nD τ sig (Elt F) Λ .tc) (Vec F SOne2 .f32) :=
  Prog.lift (.load ao (Rect.unit (s := SOne2) ![0, 0] SOne2.size inb_One2).toLoadRect (View.loadsAt_vmem pos_One2))
def storeOne (v : FVec F SOne2 .f32) : Prog (TpuEff nD τ sig (Elt F) Λ .tc) PUnit :=
  Prog.lift (.store ao (Rect.unit (s := SOne2) ![0, 0] SOne2.size inb_One2) v Finset.univ
    (View.stores_vmem_bits_univ pos_One2 rfl) (.inl rfl))
def loadX : Prog (TpuEff nD τ sig (Elt F) Λ .tc) (Vec F SX .f32) :=
  Prog.lift (.load ax (Rect.unit (s := SX) ![0, 0] SX.size inb_X).toLoadRect (View.loadsAt_vmem pos_X))
def loadY : Prog (TpuEff nD τ sig (Elt F) Λ .tc) (Vec F SY .bf16) :=
  Prog.lift (.load ay (Rect.unit (s := SY) ![0, 0] SY.size inb_Y).toLoadRect (View.loadsAt_vmem pos_Y))

/-- The total of the partial sums, added to the output cell's old contents. -/
def total (old : FVec F SOne2 .f32) (part : FVec F SPart .f32) : FVec F SOne2 .f32 :=
  addf (shapeCast SOne2 old cast_One2_One2)
    (broadcast SOne2 (extractAt ![0, 0, 0]
      (shapeCast SOne3 (multiReduction .add [1, 2] SOne (shapeCast SPart1 part cast_Part_Part1) 0x00000000#32 red_Part1 (.inl rfl) rfl)
        cast_One_One3) inpos_One3))

/-- The state before the first step. -/
def start : St F := ⟨zeroPart, zeroAccf, zeroAcc⟩

/-- The body after the first grid point's clearing of the output cell. -/
def main : Prog (TpuEff nD τ sig (Elt F) Λ .tc) PUnit := do
  let y ← loadY ay
  fill bc hbc (shapeCast SY y cast_Y_Y) 128
  let x ← loadX ax
  let s ← steps aj bc x 2048 (by omega) 2048 start
  let old ← loadOne ao
  let _ ← loadOne ao
  storeOne ao (total old s.part)
  pure ⟨⟩

/-- The body's own test that the grid coordinate is 0. -/
abbrev isFirst (i0 : Nat) : Prop :=
  Scalar.cmpi .ne (Scalar.extui (Scalar.cmpi .eq (BitVec.ofNat 32 i0) 0#32) : BitVec 32) 0#32 = 1#1

/-- The whole body: at the first grid point the output cell is cleared first. -/
def body : Prog (TpuEff nD τ sig (Elt F) Λ .tc) PUnit :=
  if _h : isFirst i0 then do
    let _ ← loadOne ao
    storeOne ao (broadcast SOne2 (Scalar.ofBits .f32 0x00000000#32))
    main ay aj ax ao bc hbc
  else main ay aj ax ao bc hbc

end

end Emd
end
-- ==== Proof.Whole.lean ====
/- The printed body is the body written as loops (Body.lean).  The print cuts the unrolled body into windows; the two
   are equal by evaluation, once the test at the head of the first window is decided. -/
module

public import proofs.«01_k».proof.KernelIdeal
public import proofs.«01_k».proof.Proof.Body
public import Idealize.ShloMosaic.Lib.Tactic

@[expose] public section

noncomputable section

namespace Cert.KernelIdeal

open Idealize.ShloMosaic Idealize.SL.Sem Idealize.ShloMosaic.Tactic
variable {F : FTy → Type} [FloatOps F] [Facts]

/-- The head of the print's first window after the test: the block of `y_i` read and its first four tiles stored. -/
def tiles4 (arg1 : Memref sig .tc .vmem S128x128 .bf16) (arg5 : Memref sig .tc .vmem S1024x16x128 .bf16) (harg5 : arg5.IsWhole) :
    Prog (TpuEff nD τ sig (Elt F) Λ₀ .tc) (Σ' (v4 : FVec F S128x128 .bf16), FVec F S8x16x128 .bf16) := do
  let y ← Emd.loadY arg1
  let y := shapeCast Emd.SY y Emd.cast_Y_Y
  let _ ← Emd.loadTile arg5 0 (by omega)
  Emd.storeTile arg5 harg5 0 (by omega) (shapeCast Emd.STile (Emd.tileOf y 0 (by omega)) Emd.cast_Tile_Tile)
  let _ ← Emd.loadTile arg5 1 (by omega)
  Emd.storeTile arg5 harg5 1 (by omega) (shapeCast Emd.STile (Emd.tileOf y 1 (by omega)) Emd.cast_Tile_Tile)
  let _ ← Emd.loadTile arg5 2 (by omega)
  Emd.storeTile arg5 harg5 2 (by omega) (shapeCast Emd.STile (Emd.tileOf y 2 (by omega)) Emd.cast_Tile_Tile)
  let _ ← Emd.loadTile arg5 3 (by omega)
  Emd.storeTile arg5 harg5 3 (by omega) (shapeCast Emd.STile (Emd.tileOf y 3 (by omega)) Emd.cast_Tile_Tile)
  pure ⟨y, Emd.tileOf y 4 (by omega)⟩

/-- The first window: the output cell cleared at the first grid point, then the first tiles. -/
theorem part1_eq (i : grid0.Coords) (arg1 : Memref sig .tc .vmem S128x128 .bf16) (harg1 : arg1.IsWhole) (arg2 : Memref sig .tc .vmem S128x16x2048 .bf16) (harg2 : arg2.IsWhole) (arg3 : Memref sig .tc .vmem S128x2048 .f32) (harg3 : arg3.IsWhole) (arg4 : Memref sig .tc .vmem S1x1 .f32) (harg4 : arg4.IsWhole) (arg5 : Memref sig .tc .vmem S1024x16x128 .bf16) (harg5 : arg5.IsWhole) : k0_part1 (F := F) i arg1 harg1 arg2 harg2 arg3 harg3 arg4 harg4 arg5 harg5 =
    if _h : Emd.isFirst (i 0).val then do
      let _ ← Emd.loadOne arg4
      Emd.storeOne arg4 (broadcast Emd.SOne2 (Scalar.ofBits .f32 0x00000000#32))
      tiles4 arg1 arg5 harg5
    else tiles4 arg1 arg5 harg5 := by sl_kernel_rfl

/-- The printed body is the body written as loops. -/
theorem body_eq (i : grid0.Coords) (arg1 : Memref sig .tc .vmem S128x128 .bf16) (harg1 : arg1.IsWhole) (arg2 : Memref sig .tc .vmem S128x16x2048 .bf16) (harg2 : arg2.IsWhole) (arg3 : Memref sig .tc .vmem S128x2048 .f32) (harg3 : arg3.IsWhole) (arg4 : Memref sig .tc .vmem S1x1 .f32) (harg4 : arg4.IsWhole) (arg5 : Memref sig .tc .vmem S1024x16x128 .bf16) (harg5 : arg5.IsWhole) : cc0__emd_block (F := F) i arg1 harg1 arg2 harg2 arg3 harg3 arg4 harg4 arg5 harg5 = Emd.body (i 0).val arg1 arg2 arg3 arg4 arg5 harg5 := by
  have e := part1_eq (F := F) i arg1 harg1 arg2 harg2 arg3 harg3 arg4 harg4 arg5 harg5
  unfold cc0__emd_block k0_part517 k0_part509 Emd.body
  by_cases h : Emd.isFirst (i 0).val
  · rw [dif_pos h] at e
    rw [dif_pos h, e]
    sl_kernel_rfl
  · rw [dif_neg h] at e
    rw [dif_neg h, e]
    sl_kernel_rfl

end Cert.KernelIdeal
end
-- ==== Proof.Wp.lean ====
/- What the body does to the buffers, by its loops: each loop's rule by induction on its trips.  Stated for any
   buffer signature and any program the body runs in. -/
module

public import proofs.«01_k».proof.Proof.Body
public import Idealize.ShloMosaic.Lib.Pipeline.FrameBody
public import Idealize.ShloMosaic.Lib.Tactic
public import Idealize.ShloMosaic.Lib.Writes

@[expose] public section

noncomputable section

namespace Emd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

variable (defs : Defs nD τ sig (Elt F) Λ) (c : Dev nD)

/-! ## One load and one store, over a memref held by what it reads -/

section Rules
variable {s : Shape} {e : EltTy}

/-- A load of a rectangle reads the rectangle's elements of what the memref holds. -/
theorem wp_load_owns {m : Memref sig .tc .vmem s e} {r : Rect s} {hl : m.view.LoadsAt r.toLoadRect}
    (X : s.Idx → Elt F e) {K : (r.toLoadRect.shape.Idx → Elt F e) → sProp 𝕄} :
    (owns (c : Thread nD τ) m fullShare X : sProp 𝕄)
      ⊢ iprop((owns (c : Thread nD τ) m fullShare X -∗ K (fun y => X (r.emb y)))
        -∗ wp frame (wpE defs Variants.none (c : Thread nD τ) none) Set.univ (Prog.lift (.load m r.toLoadRect hl)) K) := by
  unfold owns
  iintro ⟨%f, %hf, H⟩ HK
  subst hf
  iapply (wp_load_rect (defs := defs) Variants.none (c : Thread nD τ) none Set.univ (m := m) (r := r) (f := f)
    (hl := hl) (k := .ret) (q := fullShare) (S := m.view.set) (Q := K) (m.view.set_slice_subset r)) $$ H
  iintro H
  rw [wp_ret]
  imodintro
  rw [show (m.access r).read (Elt F) f = fun y => m.view.read (Elt F) f (r.emb y) from rfl]
  iapply HK
  iexists f
  isplitr
  · ipureintro; rfl
  · iexact H

/-- A store to a rectangle puts the stored elements there and changes nothing else. -/
theorem wp_store_owns {m : Memref sig .tc .vmem s e} {r : Rect s} {w : r.shape.Idx → Elt F e}
    {hx : (m.access r).Stores Finset.univ} {hm : Finset.univ = Finset.univ ∨ ∀ a, r.stride a = 1}
    (X : s.Idx → Elt F e) {K : PUnit → sProp 𝕄} :
    (owns (c : Thread nD τ) m fullShare X : sProp 𝕄)
      ⊢ iprop((∀ X', ⌜(∀ x, X' (r.emb x) = w x) ∧ ∀ y, y ∉ r.set → X' y = X y⌝ -∗ owns (c : Thread nD τ) m fullShare X'
          -∗ K ⟨⟩)
        -∗ wp frame (wpE defs Variants.none (c : Thread nD τ) none) Set.univ (Prog.lift (.store m r w Finset.univ hx hm)) K) := by
  unfold owns
  iintro ⟨%f, %hf, H⟩ HK
  subst hf
  iapply (wp_store_writes₀ (defs := defs) Variants.none (c : Thread nD τ) none Set.univ (m := m) (r := r) (f := f)
    (w := w) (hx := hx) (hm := hm) (k := .ret) (S := m.view.set) (Q := K) (m.view.set_slice_subset r)) $$ H
  iintro H
  rw [wp_ret]
  imodintro
  iapply HK $$ %(m.view.read (Elt F) (m.view.writes (Elt F) f [⟨r, w⟩])) %(by
    refine ⟨fun x => View.read_writes_cons_emb _ _ r w [] x, fun y hy => ?_⟩
    exact View.read_writes_apply_of_forall_not_mem _ _ y _ (by
      intro p hp; rw [List.mem_singleton] at hp; subst hp; exact hy))
  iexists _
  isplitr
  · ipureintro; rfl
  · iexact H

end Rules

/-! ## Filling the scratch -/

/-- The rectangle of tile `d` of the scratch. -/
abbrev tileRect (d : Nat) (h : d < 128) : Rect SBc := Rect.unit (s := SBc) ![8 * d, 0, 0] STile.size (tile_inb d h)

/-- What tile `d` of the scratch is filled with. -/
def tileV (y : FVec F SY .bf16) (d : Nat) (h : d < 128) : FVec F STile .bf16 := shapeCast STile (tileOf y d h) cast_Tile_Tile

/-- The first `D` tiles of the scratch hold their values. -/
def Filled (y : FVec F SY .bf16) (D : Nat) (X : Vec F SBc .bf16) : Prop :=
  ∀ d (h : d < 128), d < D → ∀ x, X ((tileRect d h).emb x) = tileV y d h x

/-- An element of tile `d` is in no other tile. -/
theorem emb_not_mem {d d' : Nat} (h : d < 128) (h' : d' < 128) (hne : d ≠ d') (x : (tileRect d h).shape.Idx) :
    (tileRect d h).emb x ∉ (tileRect d' h').set := by
  intro hm
  obtain ⟨x', hx'⟩ := (tileRect d' h').exists_idx_of_mem hm
  have e : ((tileRect d' h').emb x' 0).val = ((tileRect d h).emb x 0).val := congrArg (fun z => (z 0).val) hx'
  have e1 : ((tileRect d' h').emb x' 0).val = 8 * d' + 1 * (x' 0).val := rfl
  have e2 : ((tileRect d h).emb x 0).val = 8 * d + 1 * (x 0).val := rfl
  have b1 : (x' 0).val < 8 := (x' 0).isLt
  have b2 : (x 0).val < 8 := (x 0).isLt
  omega

/-- The filling loop: tiles `128 - k …` are put in, the earlier ones stay. -/
theorem wp_fill (bc : Memref sig .tc .vmem SBc .bf16) (hbc : bc.IsWhole) (y : FVec F SY .bf16) {K : PUnit → sProp 𝕄} :
    ∀ (k : Nat) (_ : k ≤ 128) (X : Vec F SBc .bf16) (_ : Filled y (128 - k) X),
    (owns (c : Thread nD τ) bc fullShare X : sProp 𝕄)
      ⊢ iprop((∀ X', ⌜Filled y 128 X'⌝ -∗ owns (c : Thread nD τ) bc fullShare X' -∗ K ⟨⟩)
        -∗ wp frame (wpE defs Variants.none (c : Thread nD τ) none) Set.univ (fill bc hbc y k) K)
  | 0, _, X, hX => by
    iintro H HK
    rw [show (fill bc hbc y 0 : Prog (TpuEff nD τ sig (Elt F) Λ .tc) PUnit) = pure ⟨⟩ from rfl, wp_pure]
    imodintro
    iapply HK $$ %X %hX H
  | k + 1, hk, X, hX => by
    rw [show (fill bc hbc y (k + 1) : Prog (TpuEff nD τ sig (Elt F) Λ .tc) PUnit)
      = (loadTile bc (128 - (k + 1)) (by omega) >>= fun _ =>
          storeTile bc hbc (128 - (k + 1)) (by omega) (shapeCast STile (tileOf y (128 - (k + 1)) (by omega)) cast_Tile_Tile) >>= fun _ =>
          fill bc hbc y k) from rfl, wp_bind]
    iintro H HK
    iapply (wp_load_owns defs c (m := bc) (r := tileRect (128 - (k + 1)) (by omega)) X) $$ H
    iintro H
    rw [wp_bind]
    iapply (wp_store_owns defs c (m := bc) (r := tileRect (128 - (k + 1)) (by omega)) X) $$ H
    iintro %X' %hX' H
    iapply (wp_fill bc hbc y k (by omega) X' (by
      intro d h hd x
      by_cases e : d = 128 - (k + 1)
      · subst e; exact hX'.1 x
      · rw [hX'.2 _ (emb_not_mem h (by omega) e x)]
        exact hX d h (by omega) x)) $$ H HK

/-! ## The steps -/

/-- The rectangle of `y_j` step `n` reads. -/
abbrev rowRect (n : Nat) (h : n < 2048) : Rect SYj :=
  Rect.unit (s := SYj) ![n % 128, 0, 128 * (n / 128)] SRow1.size (row_inb n h)

/-- The term of step `n`. -/
def term (y : FVec F SY .bf16) (yj : Vec F SYj .bf16) (n : Nat) (h : n < 2048) : FVec F STile .bf16 :=
  diffOf (tileV y (n % 128) (by omega)) (rowB (row16 (fun i => yj ((rowRect n h).emb i))))

/-- The state after the last `k` of the first `N` steps. -/
def run (y : FVec F SY .bf16) (yj : Vec F SYj .bf16) (x : FVec F SX .f32) (N : Nat) (hN : N ≤ 2048) : Nat → St F → St F
  | 0, s => s
  | k + 1, s => run y yj x N hN k (next x (N - (k + 1)) (by omega) s (term y yj (N - (k + 1)) (by omega)))

/-- The steps: the buffers stay, the state is the pure run's. -/
theorem wp_steps (aj : Memref sig .tc .vmem SYj .bf16) (bc : Memref sig .tc .vmem SBc .bf16) (y : FVec F SY .bf16)
    (yj : Vec F SYj .bf16) (x : FVec F SX .f32) (N : Nat) (hN : N ≤ 2048) (X : Vec F SBc .bf16) (hX : Filled y 128 X)
    {K : St F → sProp 𝕄} : ∀ (k : Nat) (s : St F),
    (owns (c : Thread nD τ) aj fullShare yj : sProp 𝕄)
      ⊢ iprop(owns (c : Thread nD τ) bc fullShare X -∗
        (owns (c : Thread nD τ) aj fullShare yj -∗ owns (c : Thread nD τ) bc fullShare X -∗ K (run y yj x N hN k s))
        -∗ wp frame (wpE defs Variants.none (c : Thread nD τ) none) Set.univ (steps aj bc x N hN k s) K)
  | 0, s => by
    iintro Hj Hb HK
    rw [show (steps aj bc x N hN 0 s : Prog (TpuEff nD τ sig (Elt F) Λ .tc) (St F)) = pure s from rfl, wp_pure]
    imodintro
    rw [show run y yj x N hN 0 s = s from rfl]
    iapply HK $$ Hj Hb
  | k + 1, s => by
    rw [show (steps aj bc x N hN (k + 1) s : Prog (TpuEff nD τ sig (Elt F) Λ .tc) (St F))
      = (loadRow aj (N - (k + 1)) (by omega) >>= fun r =>
          loadTile bc ((N - (k + 1)) % 128) (by omega) >>= fun b =>
          steps aj bc x N hN k (next x (N - (k + 1)) (by omega) s (diffOf b (rowB (row16 r))))) from rfl, wp_bind]
    iintro Hj Hb HK
    iapply (wp_load_owns defs c (m := aj) (r := rowRect (N - (k + 1)) (by omega)) yj) $$ Hj
    iintro Hj
    rw [wp_bind]
    iapply (wp_load_owns defs c (m := bc) (r := tileRect ((N - (k + 1)) % 128) (by omega)) X) $$ Hb
    iintro Hb
    have hn2 : N - (k + 1) < 2048 := by omega
    have hn : (N - (k + 1)) % 128 < 128 := by omega
    have e : (fun i => X ((tileRect ((N - (k + 1)) % 128) hn).emb i)) = tileV y ((N - (k + 1)) % 128) hn :=
      funext fun i => hX _ hn hn i
    rw [e, show run y yj x N hN (k + 1) s
      = run y yj x N hN k (next x (N - (k + 1)) hn2 s (term y yj (N - (k + 1)) hn2)) from rfl]
    iapply (wp_steps aj bc y yj x N hN X hX k (next x (N - (k + 1)) hn2 s (term y yj (N - (k + 1)) hn2))) $$ Hj Hb HK

/-! ## The body -/

/-- What a grid point adds to the output cell's old contents. -/
def out (old : FVec F SOne2 .f32) (y : Vec F SY .bf16) (yj : Vec F SYj .bf16) (x : Vec F SX .f32) : FVec F SOne2 .f32 :=
  total old (run (shapeCast SY y cast_Y_Y) yj x 2048 (by omega) 2048 start).part

/-- Reading a whole shape's rectangle at offset 0 reads everything. -/
theorem emb_whole2 {a b : Nat} (h : ∀ i, (![0, 0] : Fin 2 → Nat) i + (⟨2, ![a, b]⟩ : Shape).size i ≤ (⟨2, ![a, b]⟩ : Shape).size i)
    (x : (⟨2, ![a, b]⟩ : Shape).Idx) : (Rect.unit (s := ⟨2, ![a, b]⟩) ![0, 0] (⟨2, ![a, b]⟩ : Shape).size h).emb x = x := by
  funext i
  apply Fin.ext
  fin_cases i
  all_goals simp [Rect.emb, Rect.unit]

section
variable (ay : Memref sig .tc .vmem SY .bf16) (aj : Memref sig .tc .vmem SYj .bf16)
  (ax : Memref sig .tc .vmem SX .f32) (ao : Memref sig .tc .vmem SOne2 .f32) (bc : Memref sig .tc .vmem SBc .bf16)
  (hbc : bc.IsWhole)

/-- The body after the clearing: the inputs stay, the output cell gains the point's total. -/
theorem wp_main (y : Vec F SY .bf16) (yj : Vec F SYj .bf16) (x : Vec F SX .f32) (o : Vec F SOne2 .f32) (X : Vec F SBc .bf16)
    {K : PUnit → sProp 𝕄} :
    (owns (c : Thread nD τ) ay fullShare y : sProp 𝕄)
      ⊢ iprop(owns (c : Thread nD τ) aj fullShare yj -∗ owns (c : Thread nD τ) ax fullShare x
        -∗ owns (c : Thread nD τ) ao fullShare o -∗ owns (c : Thread nD τ) bc fullShare X
        -∗ (owns (c : Thread nD τ) ay fullShare y -∗ owns (c : Thread nD τ) aj fullShare yj -∗ owns (c : Thread nD τ) ax fullShare x
          -∗ owns (c : Thread nD τ) ao fullShare (out o y yj x) -∗ (∃ X', owns (c : Thread nD τ) bc fullShare X') -∗ K ⟨⟩)
        -∗ wp frame (wpE defs Variants.none (c : Thread nD τ) none) Set.univ (main ay aj ax ao bc hbc) K) := by
  unfold main
  iintro Hy Hj Hx Ho Hb HK
  rw [wp_bind]
  iapply (wp_load_owns defs c (m := ay) (r := Rect.unit (s := SY) ![0, 0] SY.size inb_Y) y) $$ Hy
  iintro Hy
  rw [show (fun i => y ((Rect.unit (s := SY) ![0, 0] SY.size inb_Y).emb i)) = y from funext fun i => congrArg y (emb_whole2 _ i), wp_bind]
  iapply (wp_fill defs c bc hbc (shapeCast SY y cast_Y_Y) 128 (le_refl _) X (fun d h hd => absurd hd (by omega))) $$ Hb
  iintro %X' %hX' Hb
  rw [wp_bind]
  iapply (wp_load_owns defs c (m := ax) (r := Rect.unit (s := SX) ![0, 0] SX.size inb_X) x) $$ Hx
  iintro Hx
  rw [show (fun i => x ((Rect.unit (s := SX) ![0, 0] SX.size inb_X).emb i)) = x from funext fun i => congrArg x (emb_whole2 _ i), wp_bind]
  iapply (wp_steps defs c aj bc (shapeCast SY y cast_Y_Y) yj x 2048 (le_refl _) X' hX' 2048 start) $$ Hj Hb
  iintro Hj Hb
  rw [wp_bind]
  iapply (wp_load_owns defs c (m := ao) (r := Rect.unit (s := SOne2) ![0, 0] SOne2.size inb_One2) o) $$ Ho
  iintro Ho
  rw [show (fun i => o ((Rect.unit (s := SOne2) ![0, 0] SOne2.size inb_One2).emb i)) = o from
    funext fun i => congrArg o (emb_whole2 _ i), wp_bind]
  iapply (wp_load_owns defs c (m := ao) (r := Rect.unit (s := SOne2) ![0, 0] SOne2.size inb_One2) o) $$ Ho
  iintro Ho
  rw [wp_bind]
  iapply (wp_store_owns defs c (m := ao) (r := Rect.unit (s := SOne2) ![0, 0] SOne2.size inb_One2) o) $$ Ho
  iintro %o' %ho' Ho
  rw [wp_pure]
  imodintro
  rw [show o' = out o y yj x from funext fun i => (congrArg o' (emb_whole2 inb_One2 i)).symm.trans (ho'.1 i)]
  iapply HK $$ Hy Hj Hx Ho
  iexists X'
  iexact Hb

/-- The zero the output cell is cleared to. -/
def zeroOne : FVec F SOne2 .f32 := broadcast SOne2 (Scalar.ofBits .f32 0x00000000#32)

/-- The whole body: the output cell ends at the point's total over its old contents, or over zero at the first point. -/
theorem wp_body (i0 : Nat) (y : Vec F SY .bf16) (yj : Vec F SYj .bf16) (x : Vec F SX .f32) (o o' : Vec F SOne2 .f32) (X : Vec F SBc .bf16)
    (h0 : isFirst i0 → o' = zeroOne) (h1 : ¬ isFirst i0 → o' = o) {K : PUnit → sProp 𝕄} :
    (owns (c : Thread nD τ) ay fullShare y : sProp 𝕄)
      ⊢ iprop(owns (c : Thread nD τ) aj fullShare yj -∗ owns (c : Thread nD τ) ax fullShare x
        -∗ owns (c : Thread nD τ) ao fullShare o -∗ owns (c : Thread nD τ) bc fullShare X
        -∗ (owns (c : Thread nD τ) ay fullShare y -∗ owns (c : Thread nD τ) aj fullShare yj -∗ owns (c : Thread nD τ) ax fullShare x
          -∗ owns (c : Thread nD τ) ao fullShare (out o' y yj x) -∗ (∃ X', owns (c : Thread nD τ) bc fullShare X') -∗ K ⟨⟩)
        -∗ wp frame (wpE defs Variants.none (c : Thread nD τ) none) Set.univ (body i0 ay aj ax ao bc hbc) K) := by
  unfold body
  by_cases hf : isFirst i0
  · rw [dif_pos hf, wp_bind]
    iintro Hy Hj Hx Ho Hb HK
    iapply (wp_load_owns defs c (m := ao) (r := Rect.unit (s := SOne2) ![0, 0] SOne2.size inb_One2) o) $$ Ho
    iintro Ho
    rw [wp_bind]
    iapply (wp_store_owns defs c (m := ao) (r := Rect.unit (s := SOne2) ![0, 0] SOne2.size inb_One2) o) $$ Ho
    iintro %o2 %ho2 Ho
    rw [show o2 = o' from (funext fun i => (congrArg o2 (emb_whole2 inb_One2 i)).symm.trans (ho2.1 i)).trans (h0 hf).symm]
    iapply (wp_main defs c ay aj ax ao bc hbc y yj x o' X) $$ Hy Hj Hx Ho Hb HK
  · rw [dif_neg hf, h1 hf]
    exact wp_main defs c ay aj ax ao bc hbc y yj x o X

end

end Emd
end
-- ==== Proof.Frame.lean ====
/- The launch: what the pipeline's buffers hold at every grid point, the body's obligation, the run to its end, and the
   claim that the arguments end unchanged, at any float values. -/
module

public import proofs.«01_k».proof.Proof.Gen.KernelIdeal.Frame
public import proofs.«01_k».proof.Proof.Whole
public import proofs.«01_k».proof.Proof.Wp
public import Idealize.ShloMosaic.Lib.Claim

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test holds at the first grid point alone. -/
theorem first_iff : ∀ t : Fin grid0.N, Emd.isFirst (grid0.coords t 0).val ↔ t.val = 0 := by decide

/-- The output cell after the body at point `n`: the point's total over what the point before left, over zero at the first. -/
def outsAt (c : Dev nD) : (n : ℕ) → n < cfg0.N → Vec F S1x1 .f32
  | 0, hn => Emd.out Emd.zeroOne (iblk m c 0 ⟨0, hn⟩) (iblk m c 1 ⟨0, hn⟩) (iblk m c 2 ⟨0, hn⟩)
  | n + 1, hn => Emd.out (outsAt c n (Nat.lt_of_succ_lt hn)) (iblk m c 0 ⟨n + 1, hn⟩) (iblk m c 1 ⟨n + 1, hn⟩) (iblk m c 2 ⟨n + 1, hn⟩)

/-- The pipeline's proof data: every input window keeps its block, the output window holds `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

/-- The proof data's arrays are the ones the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outsAt m c t.val t.isLt := by dsimp only [dats]

/-- Each input's buffer holds its block when the body starts. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- After the first point the output cell holds what the point before left. -/
theorem before_3 (c : Dev nD) (t : Fin cfg0.N) (h0 : t.val ≠ 0) (d) :
    (dats m 0 c).before 3 t d = outsAt m c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-- The old contents the body adds to at point `t`. -/
def oldAt (c : Dev nD) (t : Fin cfg0.N) : Vec F S1x1 .f32 :=
  if t.val = 0 then Emd.zeroOne else outsAt m c (t.val - 1) (Nat.lt_of_le_of_lt (Nat.sub_le _ _) t.isLt)

/-- `outsAt` is one step over the old contents. -/
theorem outsAt_eq (c : Dev nD) (t : Fin cfg0.N) :
    outsAt m c t.val t.isLt = Emd.out (oldAt m c t) (iblk m c 0 t) (iblk m c 1 t) (iblk m c 2 t) := by
  obtain ⟨n, hn⟩ := t
  cases n with
  | zero => rfl
  | succ n => rfl

/-! ## The body's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The invariant opened: the scratch at some contents and the generator register. -/
theorem inv_eq (c : Dev nD) : (Pipeline.ΦA spec0 c : sProp 𝕄)
    = iprop((∃ X, owns (c : Thread nD τ) (Memref.whole cc0_scratch0) fullShare X) ∗ ∃ r, prngReg c r) := by
  unfold Pipeline.ΦA
  rw [scopedRest0_eq]
  simp only [owns_whole]

set_option maxHeartbeats 800000 in
/-- The body at any point, from the loops' rule. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, outsAt_eq]
  rw [show (dats m 0 c).Φ t.castSucc = Pipeline.ΦA spec0 c from rfl, inv_eq]
  iintro ⟨⟨⟨%X, HS⟩, Hg⟩, Ho, ⟨%d0, H0⟩, ⟨%d1, H1⟩, ⟨%d2, H2⟩, ⟨%d3, H3⟩⟩
  iapply (Emd.wp_body (defs₀ (F := F)) c (st0_0 t) (st0_1 t) (st0_2 t) (st0_3 t) (Memref.whole cc0_scratch0)
    (Memref.isWhole_whole _) (grid0.coords t 0).val (iblk m c 0 t) (iblk m c 1 t) (iblk m c 2 t) ((dats m 0 c).before 3 t d3) (oldAt m c t) X
    (fun h => if_pos ((first_iff t).mp h))
    (fun h => by
      have h0 : t.val ≠ 0 := fun e => h ((first_iff t).mpr e)
      rw [before_3 m c t h0]; exact if_neg h0)) $$ H0 H1 H2 H3 HS
  iintro H0 H1 H2 H3 HS
  isplitl [HS Hg]
  · isplitl [HS]
    · iexact HS
    · iexact Hg
  isplitl [Ho]; · iexact Ho
  isplitl [H0]; · iexact H0
  isplitl [H1]; · iexact H1
  isplitl [H2]; · iexact H2
  iexact H3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The library's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the launch theorem's implicit arguments are found by unfolding plain definitions in a metavariable's type
set_option backward.isDefEq.respectTransparency.types false in
set_option maxHeartbeats 800000 in
/-- Every execution ends, with the arrays at what the proof data says and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Transport.lean ====
/- The kernel as compiled and the kernel printed for reading at the ideal instance are the same text here, no rewrite having
   been applied: the claim proved of the second at any float values, read at the machine's, is the claim of the first. -/
module

public import proofs.«01_k».proof.Defs
public import proofs.«01_k».proof.Proof.Gen.Kernel
public import proofs.«01_k».proof.Proof.Frame
public import Idealize.ShloMosaic.PureOps.BitExact
public import Idealize.ShloMosaic.Lib.Tactic

@[expose] public section

noncomputable section

namespace Cert.Kernel.Run

open Idealize.ShloMosaic Idealize.ShloMosaic.Tactic Idealize.SL.Sem

attribute [local instance] Cert.Kernel.Gen.facts Cert.KernelIdeal.Gen.facts

/-- What the ideal text's frame theorem says at the machine's floats. -/
abbrev Claim' : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two claims are one. -/
theorem claim_eq : Claim' = Cert.quiescent_Kernel := by sl_kernel_rfl

/-- The kernel as compiled runs, its arguments end unchanged and every semaphore at zero. -/
theorem frame : Cert.quiescent_Kernel := claim_eq.mp fun m g _ => Cert.KernelIdeal.Run.frame m g

end Cert.Kernel.Run

end
-- ==== Proof.Distance.lean ====
/- The number both programs compute: the sum, over all rows `i` of `Y` and all rows `j` of `Yj`, of the L1 distance of
   the two rows times `X` at `(i, j)`. -/
module

public import Idealize.ShloMosaic.Lib.Pointwise

@[expose] public section

noncomputable section

namespace Emd

open Idealize.ShloMosaic

/-- The absolute value of an extended real. -/
def mag (v : EReal) : EReal := max v (-v)

/-- A sum over `m * n` numbers is a sum over `m` groups of `n` consecutive ones. -/
theorem sum_groups (m n k : Nat) (hk : m * n = k) (f : Fin k → EReal) :
    ∑ c : Fin k, f c = ∑ h : Fin m, ∑ l : Fin n, f ⟨h.val * n + l.val, by
      have h1 : h.val * n + n ≤ m * n := by
        have := Nat.mul_le_mul_right n (Nat.succ_le_of_lt h.isLt)
        rwa [Nat.succ_mul] at this
      have := l.isLt
      omega⟩ := by
  subst hk
  rw [← finProdFinEquiv.sum_comp, Fintype.sum_prod_type]
  refine Finset.sum_congr rfl fun h _ => Finset.sum_congr rfl fun l _ => congrArg f (Fin.ext ?_)
  simp only [finProdFinEquiv_apply_val]
  rw [Nat.mul_comm, Nat.add_comm]

/-- The L1 distance of row `i` of `Y` from row `j` of `Yj`. -/
def gap (Y Yj : FVec Ideal ⟨2, ![2048, 128]⟩ .f32) (i j : Fin 2048) : EReal :=
  ∑ d : Fin 128, mag (Y (ix2 i d) - Yj (ix2 j d))

/-- Every distance times its coefficient, summed. -/
def emd (Y Yj : FVec Ideal ⟨2, ![2048, 128]⟩ .f32) (X : FVec Ideal ⟨2, ![2048, 2048]⟩ .f32) : EReal :=
  ∑ i : Fin 2048, ∑ j : Fin 2048, gap Y Yj i j * X (ix2 i j)

end Emd

end
-- ==== Proof.Block.lean ====
/- What one block of the kernel computes over the extended reals: the old total plus, over all rows `r` and columns
   `c` of the block, the L1 distance of row `r` of `y_i` from column `c` of `y_j`, times `x_ij` at `(r, c)`. -/
module

public import proofs.«01_k».proof.Proof.Wp
public import proofs.«01_k».proof.Proof.Distance
public import Idealize.ShloMosaic.Lib.Pointwise
public import Idealize.ShloMosaic.Lib.IdealHost

@[expose] public section

set_option maxRecDepth 16384

noncomputable section

namespace Emd

open Idealize.ShloMosaic

/-! ## The pieces of the body at an index -/

/-- Step `n = 128 h + d`'s term at row `16 a + b` and lane `l`: the distance in coordinate `d` between that row of
    `y_i` and column `128 h + l` of `y_j`. -/
theorem term_apply (y : FVec Ideal SY .bf16) (yj : Vec Ideal SYj .bf16) (n : Nat) (h : n < 2048)
    (a : Fin 8) (b : Fin 16) (l : Fin 128) :
    term y yj n h (ix3 a b l) =
      mag (y (ix2 ⟨a.val * 16 + b.val, by omega⟩ ⟨n % 128, Nat.mod_lt _ (by decide)⟩) -
        yj (ix3 ⟨n % 128, Nat.mod_lt _ (by decide)⟩ b ⟨128 * (n / 128) + l.val, by omega⟩)) := by
  have e : (rowRect n h).emb (ix3 0 b l) =
      (ix3 ⟨n % 128, Nat.mod_lt _ (by decide)⟩ b ⟨128 * (n / 128) + l.val, by omega⟩ : SYj.Idx) := by
    funext i
    apply Fin.ext
    fin_cases i
    all_goals simp [Rect.emb, Rect.unit]
  unfold term diffOf tileV tileOf rowB row16
  pointwise
  rw [← e]
  rfl

/-- A finished column block's contribution to the partial sums at `(g, l)`: over the 16 rows `8 k + g`. -/
theorem blockSum_apply (x : FVec Ideal SX .f32) (accf : FVec Ideal STile .f32) (h : Nat) (hh : h < 16)
    (g : Fin 8) (l : Fin 128) :
    blockSum x accf h hh (ix2 g l) =
      ∑ k : Fin 16, accf (ix3 ⟨(k.val * 8 + g.val) / 16, by omega⟩ ⟨(k.val * 8 + g.val) % 16, by omega⟩ l) *
        x (ix2 ⟨k.val * 8 + g.val, by omega⟩ ⟨128 * h + l.val, by omega⟩) := by
  unfold blockSum
  pointwise

/-- The new total: the old one plus all the partial sums. -/
theorem total_apply (old : FVec Ideal SOne2 .f32) (part : FVec Ideal SPart .f32) :
    total old part (ix2 0 0) = old (ix2 0 0) + ∑ g : Fin 8, ∑ l : Fin 128, part (ix2 g l) := by
  unfold total
  pointwise

/-! ## The state after `n` steps -/

/-- Step `n`'s term, zero past the last step. -/
def termN (y : FVec Ideal SY .bf16) (yj : Vec Ideal SYj .bf16) (n : Nat) (i : STile.Idx) : EReal :=
  if h : n < 2048 then term y yj n h i else 0

/-- The sum of the first `D` terms of column block `h`. -/
def theta (y : FVec Ideal SY .bf16) (yj : Vec Ideal SYj .bf16) (h D : Nat) (i : STile.Idx) : EReal :=
  ∑ d ∈ Finset.range D, termN y yj (128 * h + d) i

/-- What column block `h` adds to the partial sums, zero past the last block. -/
def blockN (y : FVec Ideal SY .bf16) (yj : Vec Ideal SYj .bf16) (x : FVec Ideal SX .f32) (h : Nat) (j : SPart.Idx) : EReal :=
  if hh : h < 16 then blockSum x (theta y yj h 128) h hh j else 0

/-- The state after `n` steps: the two accumulators together hold the column block's terms so far, the bf16 one is
    zero at every 32nd step, and the partial sums hold the finished column blocks. -/
structure Inv (y : FVec Ideal SY .bf16) (yj : Vec Ideal SYj .bf16) (x : FVec Ideal SX .f32) (n : Nat) (s : St Ideal) : Prop where
  accs : ∀ i, s.accf i + s.acc i = theta y yj (n / 128) (n % 128) i
  acc0 : n % 32 = 0 → ∀ i, s.acc i = 0
  part : ∀ j, s.part j = ∑ h ∈ Finset.range (n / 128), blockN y yj x h j

variable (y : FVec Ideal SY .bf16) (yj : Vec Ideal SYj .bf16) (x : FVec Ideal SX .f32)

theorem theta_succ (h D : Nat) (i : STile.Idx) :
    theta y yj h (D + 1) i = theta y yj h D i + termN y yj (128 * h + D) i := Finset.sum_range_succ _ _

/-- The zero constants are zero. -/
theorem zeroAcc_apply (i : STile.Idx) : (zeroAcc : FVec Ideal STile .bf16) i = 0 := by
  unfold zeroAcc
  pointwise
theorem zeroAccf_apply (i : STile.Idx) : (zeroAccf : FVec Ideal STile .f32) i = 0 := by
  unfold zeroAccf
  pointwise
theorem zeroPart_apply (j : SPart.Idx) : (zeroPart : FVec Ideal SPart .f32) j = 0 := by
  unfold zeroPart
  pointwise

/-- Before the first step nothing is summed. -/
theorem inv_start : Inv y yj x 0 start := by
  refine ⟨fun i => ?_, fun _ i => zeroAcc_apply i, fun j => ?_⟩
  · show (zeroAccf : FVec Ideal STile .f32) i + (zeroAcc : FVec Ideal STile .bf16) i = _
    rw [zeroAcc_apply, zeroAccf_apply]
    simp [theta]
  · show (zeroPart : FVec Ideal SPart .f32) j = _
    rw [zeroPart_apply]
    simp

/-- One step keeps the invariant. -/
theorem inv_next (n : Nat) (h : n < 2048) (s : St Ideal) (hs : Inv y yj x n s) :
    Inv y yj x (n + 1) (next x n h s (term y yj n h)) := by
  have ht : ∀ i, s.accf i + (s.acc i + term y yj n h i) = theta y yj (n / 128) (n % 128 + 1) i := fun i => by
    rw [theta_succ, Nat.div_add_mod, ← hs.accs i, add_assoc, termN, dif_pos h]
  unfold next
  rcases h1 : Nat.beq (n % 32) 31 with _ | _
  · have h1' : n % 32 ≠ 31 := Nat.ne_of_beq_eq_false h1
    have e1 : (n + 1) / 128 = n / 128 := by omega
    have e2 : (n + 1) % 128 = n % 128 + 1 := by omega
    refine ⟨fun i => ?_, fun h0 => absurd h0 (by omega), fun j => ?_⟩
    · rw [e1, e2]
      exact ht i
    · rw [e1]
      exact hs.part j
  · have h1' : n % 32 = 31 := Nat.eq_of_beq_eq_true h1
    rcases h2 : Nat.beq (n % 128) 127 with _ | _
    · have h2' : n % 128 ≠ 127 := Nat.ne_of_beq_eq_false h2
      have e1 : (n + 1) / 128 = n / 128 := by omega
      have e2 : (n + 1) % 128 = n % 128 + 1 := by omega
      refine ⟨fun i => ?_, fun _ i => zeroAcc_apply i, fun j => ?_⟩
      · rw [e1, e2]
        show s.accf i + (s.acc i + term y yj n h i) + (zeroAcc : FVec Ideal STile .bf16) i = _
        rw [zeroAcc_apply, add_zero]
        exact ht i
      · rw [e1]
        exact hs.part j
    · have h2' : n % 128 = 127 := Nat.eq_of_beq_eq_true h2
      have e1 : (n + 1) / 128 = n / 128 + 1 := by omega
      have e2 : (n + 1) % 128 = 0 := by omega
      refine ⟨fun i => ?_, fun _ i => zeroAcc_apply i, fun j => ?_⟩
      · rw [e2]
        show (zeroAccf : FVec Ideal STile .f32) i + (zeroAcc : FVec Ideal STile .bf16) i = _
        rw [zeroAcc_apply, zeroAccf_apply]
        simp [theta]
      · have e : (addf s.accf (extf .f32 (addf s.acc (term y yj n h)) bits_lt) : FVec Ideal STile .f32) =
            theta y yj (n / 128) 128 := by
          funext i
          have := ht i
          rw [h2'] at this
          exact this
        rw [e1, Finset.sum_range_succ, ← hs.part j, blockN, dif_pos (by omega)]
        show s.part j + blockSum x (addf s.accf (extf .f32 (addf s.acc (term y yj n h)) bits_lt)) (n / 128) _ j = _
        rw [e]

/-- The last `k` of the first `N` steps keep the invariant. -/
theorem inv_run (N : Nat) (hN : N ≤ 2048) : ∀ (k : Nat) (s : St Ideal), k ≤ N → Inv y yj x (N - k) s →
    Inv y yj x N (run y yj x N hN k s)
  | 0, _, _, hs => hs
  | k + 1, s, hk, hs => by
    refine inv_run N hN k _ (by omega) ?_
    have e : N - k = N - (k + 1) + 1 := by omega
    rw [e]
    exact inv_next y yj x _ _ s hs

/-! ## The whole block -/

/-- The L1 distance of row `r` of `y` from column `c` of `yj`. -/
def dist (r : Fin 128) (c : Fin 2048) : EReal :=
  ∑ d : Fin 128, mag (y (ix2 r d) - yj (ix3 d ⟨r.val % 16, by omega⟩ c))

/-- A finished column block holds the distances of its rows from its columns. -/
theorem theta_apply (h : Fin 16) (r : Fin 128) (l : Fin 128) :
    theta y yj h.val 128 (ix3 ⟨r.val / 16, by omega⟩ ⟨r.val % 16, by omega⟩ l) =
      dist y yj r ⟨h.val * 128 + l.val, by omega⟩ := by
  unfold theta dist
  rw [Finset.sum_range]
  refine Finset.sum_congr rfl fun d _ => ?_
  have e1 : (128 * h.val + d.val) % 128 = d.val := by omega
  have e2 : (128 * h.val + d.val) / 128 = h.val := by omega
  have e3 : r.val / 16 * 16 + r.val % 16 = r.val := by omega
  rw [termN, dif_pos (by omega), term_apply]
  have e4 : 128 * h.val + l.val = h.val * 128 + l.val := by omega
  simp only [e1, e2, e3, e4]

/-- The two orders in which a block's products are added: by group, lane, column block and row of the group, and by
    row and column. -/
theorem sum_order (f : Fin 8 → Fin 128 → Fin 16 → Fin 16 → EReal) :
    ∑ g, ∑ l, ∑ h, ∑ k, f g l h k = ∑ k, ∑ g, ∑ h, ∑ l, f g l h k := by
  rw [Finset.sum_comm (s := (Finset.univ : Finset (Fin 16))) (t := (Finset.univ : Finset (Fin 8)))]
  refine Finset.sum_congr rfl fun g _ => ?_
  rw [Finset.sum_comm (s := (Finset.univ : Finset (Fin 128))),
    Finset.sum_comm (s := (Finset.univ : Finset (Fin 16))) (t := (Finset.univ : Finset (Fin 16)))]
  refine Finset.sum_congr rfl fun h _ => Finset.sum_comm

/-- A block's partial sum at `(g, l)`: over all column blocks `h`, over the 16 rows `8 k + g`. -/
theorem part_apply (g : Fin 8) (l : Fin 128) : (run y yj x 2048 (by omega) 2048 start).part (ix2 g l) =
    ∑ h : Fin 16, ∑ k : Fin 16, dist y yj ⟨k.val * 8 + g.val, by omega⟩ ⟨h.val * 128 + l.val, by omega⟩ *
      x (ix2 ⟨k.val * 8 + g.val, by omega⟩ ⟨h.val * 128 + l.val, by omega⟩) := by
  have hp := (inv_run y yj x 2048 (by omega) 2048 start (by omega) (inv_start y yj x)).part (ix2 g l)
  rw [hp, Finset.sum_range]
  refine Finset.sum_congr rfl fun h _ => ?_
  rw [blockN, dif_pos h.isLt, blockSum_apply]
  refine Finset.sum_congr rfl fun k _ => ?_
  rw [theta_apply y yj h ⟨k.val * 8 + g.val, by omega⟩ l]
  have e4 : 128 * h.val + l.val = h.val * 128 + l.val := by omega
  simp only [e4]

/-- What a grid point adds: every distance in its block, times `x_ij`. -/
theorem out_apply (old : FVec Ideal SOne2 .f32) :
    out old y yj x (ix2 0 0) =
      old (ix2 0 0) + ∑ r : Fin 128, ∑ c : Fin 2048, dist y yj r c * x (ix2 r c) := by
  have ey : shapeCast SY y cast_Y_Y = y := by pointwise
  unfold out
  rw [ey, total_apply]
  refine congrArg (old (ix2 0 0) + ·) ?_
  simp only [part_apply]
  rw [sum_order, sum_groups 16 8 128 rfl]
  refine Finset.sum_congr rfl fun k _ => Finset.sum_congr rfl fun g _ => ?_
  rw [sum_groups 16 128 2048 rfl]

end Emd

end
-- ==== Proof.Arrays.lean ====
/- What the kernel's result holds at the end of a run: over the extended reals, the sum over all rows `i` of `y_i` and
   all rows `j` of `y_j` of their L1 distance times `x_ij` at `(i, j)`. -/
module

public import proofs.«01_k».proof.Proof.Block
public import proofs.«01_k».proof.Proof.Frame
public import Idealize.ShloMosaic.Lib.Pipeline.Value

@[expose] public section

set_option maxRecDepth 16384

noncomputable section

namespace Cert.KernelIdeal.Run

open Idealize.ShloMosaic Idealize.ShloMosaic.TcCoe Idealize.ShloMosaic.Tactic Idealize.SL.Sem
open Idealize.ShloMosaic.Pipeline (Dat)
open Cert.KernelIdeal Cert.KernelIdeal.Gen

section Generic

variable {F : FTy → Type} [FloatOps F]
variable (m : (ℓ : Loc nD τ sig) → Buf (Elt F) ℓ) (ρ : Dev nD → PrngReg)

/-! ## The result array -/

/-- The total after the last grid point, as contents of the result array (its one block is the array). -/
abbrev result (c : Dev nD) : Buf (Elt F) ((c : Thread nD τ).loc main_call0_v5) := outsAt m c 15 (by rw [show cfg0.N = 16 from N_0]; decide)

/-- The result array's block at the last point starts at its first element and is one by one, as the array is. -/
theorem block_start : ∀ a : Fin 2, win0_3.index t0_15 a * win0_3.size a = 0 := by decide
theorem block_size : ∀ a : Fin 2, win0_3.xsize (grid0.coords t0_15) a = 1 := by decide
theorem array_size : ∀ a : Fin 2, (S1x1 : Shape).size a = 1 := by decide

/-- Only the last point writes back. -/
theorem last_of_flush (t : Fin cfg0.N) (hf : (cfg0.win 3).flush t = true) : t = t0_15 :=
  Fin.ext (by
    have h := (flush0_3 t).mp hf
    have hlt : t.val < 16 := lt_of_lt_of_eq t.isLt N_0
    show t.val = 15
    omega)

/-- What it writes is the array's contents read through its block. -/
theorem flushed_eq (c : Dev nD) (t : Fin cfg0.N) (hf : (cfg0.win 3).flush t = true) :
    (dats m 0 c).flushed 3 t = ((cfg0.win 3).blk t).view.read (Elt F) (result m c) := by
  rw [last_of_flush t hf]
  have h : (cfg0.win 3).cut (grid0.coords t0_15) ((dats m 0 c).after 3 t0_15) = result m c := by
    rw [after_3]
    rfl
  exact h.trans (Memref.read_access_unit_zero (Elt F) main_call0_v5 (funext block_start)
    (fun a => by rw [block_start a, Nat.zero_add]) (result m c)).symm

/-- So the result array ends holding it: that block covers the array. -/
theorem final_o (c : Dev nD) : (dats m 0 c).arrAt 3 cfg0.N = result m c := by
  refine (dats m 0 c).arrAt_eq_of_cover 3 (result m c) (flushed_eq m c) fun i => ⟨t0_15, (flush0_3 t0_15).mpr rfl, ?_⟩
  change i ∈ ((View.whole main_call0_v5).slice (win0_3.rect t0_15)).set
  rw [View.set_slice_whole, Rect.mem_set_unit]
  intro (a : Fin 2)
  have hi : (i a).val < 1 := lt_of_lt_of_eq (i a).isLt (array_size a)
  change win0_3.index t0_15 a * win0_3.size a ≤ (i a).val ∧
    (i a).val < win0_3.index t0_15 a * win0_3.size a + win0_3.xsize (grid0.coords t0_15) a
  rw [block_start, block_size]
  exact ⟨Nat.zero_le _, by omega⟩

/-! ## The blocks the body reads -/

theorem lt_N (t : Fin grid0.N) : t.val < 16 := lt_of_lt_of_eq t.isLt N_0

/-- Where each input's block starts at point `t`: row block `t` of `y_i` and of `x_ij`, and all of `y_j`. -/
theorem start_0 : ∀ (t : Fin grid0.N) (a : Fin 2), win0_0.index t a * Emd.SY.size a = (![t.val * 128, 0] : Fin 2 → Nat) a := by decide
theorem start_1 : ∀ (t : Fin grid0.N) (a : Fin 3), win0_1.index t a * Emd.SYj.size a = 0 := by decide
theorem start_2 : ∀ (t : Fin grid0.N) (a : Fin 2), win0_2.index t a * Emd.SX.size a = (![t.val * 128, 0] : Fin 2 → Nat) a := by decide

/-- The block of `y_i` at point `t` is its rows from `128 t` on. -/
theorem iblk_0 (c : Dev nD) (t : Fin grid0.N) (r d : Fin 128) :
    (iblk m c 0 t : Vec F Emd.SY .bf16) (ix2 r d) = V m c main_call0_v4 (ix2 ⟨t.val * 128 + r.val, by have := lt_N t; omega⟩ d) := by
  unfold iblk
  rw [View.read_apply]
  refine congrArg (V m c main_call0_v4) (funext fun (a : Fin 2) => Fin.ext ?_)
  change win0_0.index t a * Emd.SY.size a + 1 * (ix2 r d a).val = _
  rw [start_0, Nat.one_mul]
  fin_cases a
  · rfl
  · exact Nat.zero_add _

/-- The block of the repeated `y_j` is all of it at every point. -/
theorem iblk_1 (c : Dev nD) (t : Fin grid0.N) (d : Fin 128) (b : Fin 16) (j : Fin 2048) :
    (iblk m c 1 t : Vec F Emd.SYj .bf16) (ix3 d b j) = V m c main_call0_v3 (ix3 d b j) := by
  unfold iblk
  rw [View.read_apply]
  refine congrArg (V m c main_call0_v3) (funext fun (a : Fin 3) => Fin.ext ?_)
  change win0_1.index t a * Emd.SYj.size a + 1 * (ix3 d b j a).val = _
  rw [start_1, Nat.one_mul, Nat.zero_add]

/-- The block of `x_ij` at point `t` is its rows from `128 t` on. -/
theorem iblk_2 (c : Dev nD) (t : Fin grid0.N) (r : Fin 128) (j : Fin 2048) :
    (iblk m c 2 t : Vec F Emd.SX .f32) (ix2 r j) =
      m ((c : Thread nD τ).loc main_arg2) (ix2 ⟨t.val * 128 + r.val, by have := lt_N t; omega⟩ j) := by
  rw [← V_main_arg2 m c]
  unfold iblk
  rw [View.read_apply]
  refine congrArg (V m c main_arg2) (funext fun (a : Fin 2) => Fin.ext ?_)
  change win0_2.index t a * Emd.SX.size a + 1 * (ix2 r j a).val = _
  rw [start_2, Nat.one_mul]
  fin_cases a
  · rfl
  · exact Nat.zero_add _

/-- What the host leaves in the first two windows' arrays. -/
theorem V_y (c : Dev nD) : V m c main_call0_v4 =
    (truncf .bf16 (m ((c : Thread nD τ).loc main_arg0) : FVec F S2048x128 .f32) bitsLt_bf16_f32 : FVec F S2048x128 .bf16) := rfl
theorem V_yj (c : Dev nD) : V m c main_call0_v3 =
    (broadcastInDim S128x16x2048 ![0, 1, 2] bcast_S128x1x2048_S128x16x2048_0_1_2
      (broadcastInDim S128x1x2048 ![0, 2] bcast_S128x2048_S128x1x2048_0_2
        (truncf .bf16 (transpose S128x2048 [1, 0] (m ((c : Thread nD τ).loc main_arg1) : FVec F S2048x128 .f32)
          transposes_S2048x128_S128x2048_1_0) bitsLt_bf16_f32 : FVec F S128x2048 .bf16)) : FVec F S128x16x2048 .bf16) := rfl

end Generic

/-! ## Over the extended reals -/

variable (m : (ℓ : Loc nD τ sig) → Buf (Elt Ideal) ℓ) (ρ : Dev nD → PrngReg)

/-- The kernel's arguments on device `c`: `y_i`, `y_j` and `x_ij`. -/
abbrev argY (c : Dev nD) : FVec Ideal S2048x128 .f32 := m ((c : Thread nD τ).loc main_arg0)
abbrev argYj (c : Dev nD) : FVec Ideal S2048x128 .f32 := m ((c : Thread nD τ).loc main_arg1)
abbrev argX (c : Dev nD) : FVec Ideal S2048x2048 .f32 := m ((c : Thread nD τ).loc main_arg2)

theorem y_apply (c : Dev nD) (t : Fin grid0.N) (r d : Fin 128) :
    (iblk m c 0 t : Vec Ideal Emd.SY .bf16) (ix2 r d) = argY m c (ix2 ⟨t.val * 128 + r.val, by have := lt_N t; omega⟩ d) := by
  rw [iblk_0, V_y]
  rfl

theorem yj_apply (c : Dev nD) (t : Fin grid0.N) (d : Fin 128) (b : Fin 16) (j : Fin 2048) :
    (iblk m c 1 t : Vec Ideal Emd.SYj .bf16) (ix3 d b j) = argYj m c (ix2 j d) := by
  rw [iblk_1, V_yj]
  pointwise

/-- Row block `t`'s part of the result. -/
def rows (c : Dev nD) (t : Nat) : EReal :=
  if h : t < 16 then
    ∑ r : Fin 128, ∑ j : Fin 2048, Emd.gap (argY m c) (argYj m c) ⟨t * 128 + r.val, by omega⟩ j *
      argX m c (ix2 ⟨t * 128 + r.val, by omega⟩ j)
  else 0

/-- One grid point adds its row block's part. -/
theorem point_apply (c : Dev nD) (t : Fin grid0.N) (old : FVec Ideal Emd.SOne2 .f32) :
    Emd.out old (iblk m c 0 t) (iblk m c 1 t) (iblk m c 2 t) (ix2 0 0) = old (ix2 0 0) + rows m c t.val := by
  rw [Emd.out_apply, rows, dif_pos (lt_N t)]
  refine congrArg (old (ix2 0 0) + ·) (Finset.sum_congr rfl fun r _ => Finset.sum_congr rfl fun j _ => ?_)
  rw [iblk_2]
  refine congrArg (· * argX m c (ix2 ⟨t.val * 128 + r.val, by have := lt_N t; omega⟩ j)) ?_
  unfold Emd.dist Emd.gap
  refine Finset.sum_congr rfl fun d _ => ?_
  rw [y_apply, yj_apply]

/-- After point `n` the output cell holds the first `n + 1` row blocks' parts. -/
theorem outsAt_apply (c : Dev nD) : ∀ (n : ℕ) (h : n < cfg0.N),
    outsAt m c n h (ix2 0 0) = ∑ t ∈ Finset.range (n + 1), rows m c t
  | 0, h => by
    show Emd.out Emd.zeroOne (iblk m c 0 ⟨0, h⟩) (iblk m c 1 ⟨0, h⟩) (iblk m c 2 ⟨0, h⟩) (ix2 0 0) = _
    rw [point_apply]
    unfold Emd.zeroOne
    pointwise
    simp
  | n + 1, h => by
    show Emd.out (outsAt m c n _) (iblk m c 0 ⟨n + 1, h⟩) (iblk m c 1 ⟨n + 1, h⟩) (iblk m c 2 ⟨n + 1, h⟩) (ix2 0 0) = _
    rw [point_apply, outsAt_apply c n, Finset.sum_range_succ _ (n + 1)]

/-- So the result array ends holding the whole sum. -/
theorem result_apply (c : Dev nD) : (result m c : FVec Ideal Emd.SOne2 .f32) (ix2 0 0) = Emd.emd (argY m c) (argYj m c) (argX m c) := by
  show outsAt m c 15 _ (ix2 0 0) = _
  rw [outsAt_apply, Finset.sum_range, Emd.emd, Emd.sum_groups 16 128 2048 rfl]
  refine Finset.sum_congr rfl fun t _ => ?_
  rw [rows, dif_pos t.isLt]

/-- The scalar result is the result array's one element. -/
theorem final_v0 (c : Dev nD) : Pipeline.afterTail₀ cfgs (dats m) 0 (V0 m) [hostOps1] c main_v0 =
    (fun _ => Emd.emd (argY m c) (argYj m c) (argX m c) : FVec Ideal S_ .f32) := by
  have e : Pipeline.withArrays (cfgs 0).spec c (V0 m c) (fun w => (dats m 0 c).arrAt w (cfgs 0).N)
      (Proc.devRef .tc main_call0_v5) = result m c :=
    (Pipeline.withArrays_arr (cfgs 0).spec (by decide) c (V0 m c) (fun w => (dats m 0 c).arrAt w (cfgs 0).N) 3).trans (final_o m c)
  show (shapeCast S_ (Pipeline.withArrays (cfgs 0).spec c (V0 m c) (fun w => (dats m 0 c).arrAt w (cfgs 0).N)
    (Proc.devRef .tc main_call0_v5) : FVec Ideal S1x1 .f32) shapeCasts_S1x1_S_ : FVec Ideal S_ .f32) = _
  rw [e]
  funext i
  rw [← result_apply]
  pointwise

/-- The kernel runs, its result ends holding that sum, and its arguments end unchanged. -/
theorem run : θ_run defs (onTc (τ := τ) (main (F := Ideal))) ⟨m, fun _ => 0, ρ⟩ fun r => ∀ c : Dev nD,
      r.2.mem ((c.tc : Thread nD τ).loc main_v0) = (fun _ => Emd.emd (argY m c) (argYj m c) (argX m c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, h.2.1 c⟩) (θ_run_and (run_main m ρ) (frame m ρ))
  rw [(h.1 c).2 main_v0 (Pipeline.mem_restRefs_of main_v0 (by decide) (by decide))]
  exact final_v0 m c

end Cert.KernelIdeal.Run

end
-- ==== Proof.RefValue.lean ====
/- What the reference computes over the extended reals: each trip of its loop fills one block of 128 rows with the L1
   distances, and the operations after the loop multiply by `x_ij` and sum. -/
module

public import proofs.«01_k».proof.Proof.Distance
public import proofs.«01_k».proof.Proof.Gen.ReferenceIdeal.Run
public import Idealize.ShloMosaic.Lib.IdealHost
public import Idealize.ShloMosaic.Lib.Quiescent

@[expose] public section

set_option maxRecDepth 16384

noncomputable section

namespace Cert.ReferenceIdeal.Value

open Idealize.ShloMosaic Idealize.ShloMosaic.TcCoe Idealize.ShloMosaic.Tactic Idealize.SL.Sem
open Idealize.ShloMosaic.StableHlo
open Cert.ReferenceIdeal Cert.ReferenceIdeal.Gen

/-! ## The reference's no-ops -/

/-- Dividing by one changes nothing. -/
theorem div_one' (v : EReal) : Ideal.div v 1 = v := by
  unfold Ideal.div
  rw [if_neg one_ne_zero, inv_one, mul_one]

/-- Nor does the first power. -/
theorem pow_one' (v : EReal) : Ideal.pow v 1 = v := by
  induction v with
  | bot => rfl
  | top =>
    show (if (0 : EReal) < 1 then (⊤ : EReal) else _) = ⊤
    rw [if_pos zero_lt_one]
  | coe r =>
    show ((Real.rpow r 1 : ℝ) : EReal) = r
    exact congrArg _ (Real.rpow_one r)

/-! ## One trip -/

/-- The start indices of trip `k`'s block: the counter, then zeros. -/
abbrev startAt (k : IVec S_ 32) : Fin 3 → Int :=
  fun a => ((![k, constantI S_ 32 0#32, constantI S_ 32 0#32] : Fin 3 → IVec S_ 32) a (Shape.Idx.first h_S_)).toInt

/-- The distances one trip computes: the rows of `Y`'s block at the counter from all rows of `Yj`. -/
def tripRows (Y : FVec Ideal S16x128x128 .f32) (Yj : FVec Ideal S2048x128 .f32) (k : IVec S_ 32) : FVec Ideal S128x2048 .f32 :=
  Host.reduceAdd (Host.absf (Host.powf (Host.divf (subf
      (broadcastInDim S128x2048x128 ![0, 1, 2] bcast_S128x1x128_S128x2048x128_0_1_2
        (broadcastInDim S128x1x128 ![0, 2] bcast_S128x128_S128x1x128_0_2
          (shapeCast S128x128 (Host.dynamicSlice S1x128x128 Y (startAt k) sliceFits_S16x128x128_S1x128x128) shapeCasts_S1x128x128_S128x128)))
      (broadcastInDim S128x2048x128 ![0, 1, 2] bcast_S1x2048x128_S128x2048x128_0_1_2
        (broadcastInDim S1x2048x128 ![1, 2] bcast_S2048x128_S1x2048x128_1_2 Yj)))
      (broadcastInDim S128x2048x128 ![] bcast_S_S128x2048x128 (constant S_ .f32 0x3F800000#32)))
      (broadcastInDim S128x2048x128 ![] bcast_S_S128x2048x128 (constant S_ .f32 0x3F800000#32))))
    (constant S_ .f32 0x00000000#32) reducesTo_S128x2048x128_S128x2048_d2 h_S_

/-- What one trip leaves in the array of distances `T`. -/
def trip (Y : FVec Ideal S16x128x128 .f32) (Yj : FVec Ideal S2048x128 .f32) (k : IVec S_ 32) (T : FVec Ideal S16x128x2048 .f32) :
    FVec Ideal S16x128x2048 .f32 :=
  Host.dynamicUpdateSlice T (broadcastInDim S1x128x2048 ![1, 2] bcast_S128x2048_S1x128x2048_1_2 (tripRows Y Yj k)) (startAt k)
    updateFits_S16x128x2048_S1x128x2048

theorem step_eq (V0 : Valuation τ sig (Elt Ideal)) : step_main_v2_3 V0 =
    trip (V0 (Proc.devRef .tc main_v2_0)) (V0 (Proc.devRef .tc main_v2_1)) (V0 (Proc.devRef .tc main_v2_2)) (V0 (Proc.devRef .tc main_v2_3)) := rfl

theorem toInt_ofNat (k : Fin 16) : (BitVec.ofNat 32 k.val).toInt = k.val := by revert k; decide

theorem startAt_eq (k : Fin 16) : startAt (fun _ => BitVec.ofNat 32 k.val) = ![(k.val : Int), 0, 0] := by
  funext a
  fin_cases a
  · exact toInt_ofNat k
  · rfl
  · rfl

theorem clamp_y (k : Fin 16) (h : S1x128x128.rank = S16x128x128.rank) (a : Fin 3) :
    Host.clampedStart S16x128x128 S1x128x128 h ![(k.val : Int), 0, 0] a = (![k.val, 0, 0] : Fin 3 → Nat) a := by
  fin_cases a
  · exact Host.clampedStart_of_le h _ _ _ rfl (Nat.succ_le_of_lt k.isLt)
  · exact Host.clampedStart_of_le h _ _ _ rfl (Nat.le_refl _)
  · exact Host.clampedStart_of_le h _ _ _ rfl (Nat.le_refl _)

theorem clamp_t (k : Fin 16) (h : S1x128x2048.rank = S16x128x2048.rank) (a : Fin 3) :
    Host.clampedStart S16x128x2048 S1x128x2048 h ![(k.val : Int), 0, 0] a = (![k.val, 0, 0] : Fin 3 → Nat) a := by
  fin_cases a
  · exact Host.clampedStart_of_le h _ _ _ rfl (Nat.succ_le_of_lt k.isLt)
  · exact Host.clampedStart_of_le h _ _ _ rfl (Nat.le_refl _)
  · exact Host.clampedStart_of_le h _ _ _ rfl (Nat.le_refl _)

theorem tripRows_apply (Y : FVec Ideal S16x128x128 .f32) (Yj : FVec Ideal S2048x128 .f32) (k : Fin 16) (r : Fin 128) (j : Fin 2048) :
    tripRows Y Yj (fun _ => BitVec.ofNat 32 k.val) (ix2 r j) = ∑ d : Fin 128, Emd.mag (Y (ix3 k r d) - Yj (ix2 j d)) := by
  unfold tripRows
  rw [startAt_eq]
  pointwise
  refine Finset.sum_congr rfl fun d _ => ?_
  rw [pow_one', div_one']
  have e0 := clamp_y k rfl 0
  have e1 := clamp_y k rfl 1
  have e2 := clamp_y k rfl 2
  simp only [Matrix.cons_val_zero, Matrix.cons_val_one, Matrix.cons_val] at e0 e1 e2
  simp only [e0, e1, e2, Nat.zero_add]
  rfl

theorem trip_apply (Y : FVec Ideal S16x128x128 .f32) (Yj : FVec Ideal S2048x128 .f32) (k : Fin 16) (T : FVec Ideal S16x128x2048 .f32)
    (b : Fin 16) (r : Fin 128) (j : Fin 2048) :
    trip Y Yj (fun _ => BitVec.ofNat 32 k.val) T (ix3 b r j) =
      if b = k then ∑ d : Fin 128, Emd.mag (Y (ix3 k r d) - Yj (ix2 j d)) else T (ix3 b r j) := by
  unfold trip
  rw [startAt_eq]
  pointwise
  have e0 := clamp_t k rfl 0
  have e1 := clamp_t k rfl 1
  have e2 := clamp_t k rfl 2
  simp only [Matrix.cons_val_zero, Matrix.cons_val_one, Matrix.cons_val] at e0 e1 e2
  simp only [e0, e1, e2, Nat.sub_zero, Nat.zero_le, and_true]
  by_cases hb : b = k
  · subst hb
    rw [dif_pos ⟨Nat.le_refl _, Nat.lt_succ_self _⟩, if_pos rfl]
    exact tripRows_apply Y Yj b r j
  · rw [dif_neg (fun h => hb (Fin.ext (Nat.le_antisymm (Nat.le_of_lt_succ h.2) h.1))), if_neg hb]

/-! ## The loop -/

variable (m : (ℓ : Loc nD τ sig) → Buf (Elt Ideal) ℓ) (ρ : Dev nD → PrngReg)

/-- The reference's arguments on device `c`: `y_i`, `y_j` and `x_ij`. -/
abbrev argY (c : Dev nD) : FVec Ideal S2048x128 .f32 := m ((c.tc : Thread nD τ).loc main_arg0)
abbrev argYj (c : Dev nD) : FVec Ideal S2048x128 .f32 := m ((c.tc : Thread nD τ).loc main_arg1)
abbrev argX (c : Dev nD) : FVec Ideal S2048x2048 .f32 := m ((c.tc : Thread nD τ).loc main_arg2)

/-- The contents after `k` trips. -/
abbrev after' (c : Dev nD) (k : Nat) : Valuation τ sig (Elt Ideal) := STEP^[k] (entryContents preI m c)

theorem after_succ (c : Dev nD) (k : Nat) : after' m c (k + 1) = STEP (after' m c k) := Function.iterate_succ_apply' _ _ _

/-- What the loop starts from: `y_i` in blocks of rows, `y_j`, and no distance yet. -/
theorem entry_y (c : Dev nD) : entryContents preI m c (Proc.devRef .tc main_v2_0) =
    (shapeCast S16x128x128 (argY m c) shapeCasts_S2048x128_S16x128x128 : FVec Ideal S16x128x128 .f32) := rfl
theorem entry_yj (c : Dev nD) : entryContents preI m c (Proc.devRef .tc main_v2_1) = argYj m c := rfl

/-- The first loop-carried array stays `y_i` in blocks, the second `y_j`, and the counter counts. -/
theorem after_y (c : Dev nD) : ∀ k, after' m c k (Proc.devRef .tc main_v2_0) =
    (shapeCast S16x128x128 (argY m c) shapeCasts_S2048x128_S16x128x128 : FVec Ideal S16x128x128 .f32)
  | 0 => entry_y m c
  | k + 1 => by rw [after_succ, STEP_main_v2_0, after_y c k]
theorem after_yj (c : Dev nD) : ∀ k, after' m c k (Proc.devRef .tc main_v2_1) = argYj m c
  | 0 => entry_yj m c
  | k + 1 => by rw [after_succ, STEP_main_v2_1, after_yj c k]
theorem after_ctr (c : Dev nD) : ∀ k, after' m c k (Proc.devRef .tc main_v2_2) = (fun _ => BitVec.ofNat 32 k : IVec S_ 32)
  | 0 => ctr_entry m c
  | k + 1 => by
    rw [after_succ, STEP_main_v2_2]
    unfold step_main_v2_2
    rw [after_ctr c k]
    funext i
    show BitVec.ofNat 32 k + 1#32 = _
    rw [BitVec.ofNat_add]

/-- Row `r` of block `b` of `y_i`. -/
theorem y_apply (c : Dev nD) (b : Fin 16) (r d : Fin 128) :
    (shapeCast S16x128x128 (argY m c) shapeCasts_S2048x128_S16x128x128 : FVec Ideal S16x128x128 .f32) (ix3 b r d) =
      argY m c (ix2 ⟨b.val * 128 + r.val, by omega⟩ d) := by
  pointwise

/-- After `k` trips the first `k` blocks of the array hold their distances. -/
theorem after_t (c : Dev nD) : ∀ k, k ≤ 16 → ∀ (b : Fin 16) (r : Fin 128) (j : Fin 2048), b.val < k →
    (after' m c k (Proc.devRef .tc main_v2_3) : FVec Ideal S16x128x2048 .f32) (ix3 b r j) =
      Emd.gap (argY m c) (argYj m c) ⟨b.val * 128 + r.val, by omega⟩ j
  | 0, _, b, _, _, hb => absurd hb (Nat.not_lt_zero _)
  | k + 1, hk, b, r, j, hb => by
    rw [after_succ, STEP_main_v2_3, step_eq, after_y, after_yj, after_ctr]
    refine (trip_apply _ _ ⟨k, by omega⟩ _ b r j).trans ?_
    by_cases e : b = ⟨k, by omega⟩
    · rw [if_pos e, ← e]
      unfold Emd.gap
      refine Finset.sum_congr rfl fun d _ => ?_
      rw [y_apply]
    · rw [if_neg e]
      exact after_t c k (by omega) b r j (by have : b.val ≠ k := fun h => e (Fin.ext h); omega)

/-! ## The result -/

/-- The operations after the loop, of the array of distances `T` and the coefficients `X`. -/
def finish (T : FVec Ideal S16x128x2048 .f32) (X : FVec Ideal S2048x2048 .f32) : FVec Ideal S_ .f32 :=
  Host.powf (Host.reduceAdd (mulf (shapeCast S2048x2048 T shapeCasts_S16x128x2048_S2048x2048) X)
    (constant S_ .f32 0x00000000#32) reducesTo_S2048x2048_S_d0_1 h_S_) (constant S_ .f32 0x3F800000#32)

theorem out_eq (V0 : Valuation τ sig (Elt Ideal)) :
    out_main_v6 V0 = finish (V0 (Proc.devRef .tc main_v2_3)) (V0 (Proc.devRef .tc main_arg2)) := rfl

theorem finish_apply (T : FVec Ideal S16x128x2048 .f32) (X : FVec Ideal S2048x2048 .f32) (i : S_.Idx) :
    finish T X i = ∑ i : Fin 2048, ∑ j : Fin 2048, T (ix3 ⟨i.val / 128, by omega⟩ ⟨i.val % 128, by omega⟩ j) * X (ix2 i j) := by
  unfold finish
  pointwise
  rw [pow_one']

/-- The reference's result is the whole sum. -/
theorem out_value (c : Dev nD) : out_main_v6 (after' m c 16) =
    (fun _ => Emd.emd (argY m c) (argYj m c) (argX m c) : FVec Ideal S_ .f32) := by
  have ev : ∀ z : S_.Idx, (finish (after' m c 16 (Proc.devRef .tc main_v2_3)) (argX m c) z : EReal) =
      Emd.emd (argY m c) (argYj m c) (argX m c) := fun z => by
    rw [finish_apply]
    unfold Emd.emd
    refine Finset.sum_congr rfl fun i _ => Finset.sum_congr rfl fun j _ => ?_
    refine congrArg (· * argX m c (ix2 i j)) ((after_t m c 16 (Nat.le_refl _) _ _ _ (by show i.val / 128 < 16; omega)).trans ?_)
    have e : i.val / 128 * 128 + i.val % 128 = i.val := by omega
    simp only [e]
  rw [out_eq, show after' m c 16 (Proc.devRef .tc main_arg2) = argX m c from iter_main_arg2 m c 16]
  exact funext ev

/-- The reference runs, its result ends holding that sum, and its arguments end unchanged. -/
theorem run_value : θ_run (defs (F := Ideal)) (onTc (τ := τ) (main (F := Ideal))) ⟨m, fun _ => 0, ρ⟩ fun r => ∀ c : Dev nD,
      r.2.mem ((c.tc : Thread nD τ).loc main_v6) = (fun _ => Emd.emd (argY m c) (argYj m c) (argX m c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_value m c), (h c).2⟩) (run m ρ)

/-- The reference runs, its arguments end unchanged, and every semaphore at zero: it has none. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2, sem_eq_zero_of_no_sems (by decide) _⟩) (run m ρ)

end Cert.ReferenceIdeal.Value

end
-- ==== Proof.lean ====
/- The certificate's proof, assembled: the three programs' runs, and the two results' equality. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Transport
public import proofs.«01_k».proof.Proof.Arrays
public import proofs.«01_k».proof.Proof.RefValue

@[expose] public section

namespace Cert.Proof

open Idealize.ShloMosaic Idealize.SL.Sem

attribute [local instance] Cert.Kernel.Gen.facts Cert.KernelIdeal.Gen.facts Cert.ReferenceIdeal.Gen.facts

/-- From equal arguments both programs end with the sum over all `(i, j)` of the L1 distance of rows `i` of `y_i` and
    `j` of `y_j` times `x_ij`. -/
theorem equal_results : Cert.algebraic_KernelIdeal_ReferenceIdeal := by
  intro m g m' g' _ hargs
  refine ⟨fun c _ => Emd.emd (Cert.KernelIdeal.Run.argY m c) (Cert.KernelIdeal.Run.argYj m c) (Cert.KernelIdeal.Run.argX m c),
    Cert.KernelIdeal.Run.run m g, ?_⟩
  refine (θ_run Cert.ReferenceIdeal.defs _ _).mono (fun r h c => ⟨(h c).1.trans ?_, (h c).2⟩) (Cert.ReferenceIdeal.Value.run_value m' g')
  obtain ⟨h0, h1, h2⟩ := hargs c
  have e0 : Cert.ReferenceIdeal.Value.argY m' c = Cert.KernelIdeal.Run.argY m c := h0
  have e1 : Cert.ReferenceIdeal.Value.argYj m' c = Cert.KernelIdeal.Run.argYj m c := h1
  have e2 : Cert.ReferenceIdeal.Value.argX m' c = Cert.KernelIdeal.Run.argX m c := h2
  rw [e0, e1, e2]
  rfl

theorem claim : Cert.Claim :=
  ⟨Cert.Kernel.Gen.facts, Cert.KernelIdeal.Gen.facts, Cert.ReferenceIdeal.Gen.facts, Cert.Kernel.Run.frame,
    fun m g _ => Cert.KernelIdeal.Run.frame m g, fun m g _ => Cert.ReferenceIdeal.Value.frame m g, trivial, equal_results⟩

end Cert.Proof
